-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S2048x1024 : Shape := ⟨2, ![2048, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S4x2048x1024, .f32⟩
  | .local _ .vmem, ⟨0, _⟩ => ⟨S4x128x1024, .f32⟩
  | .local _ .vmem, ⟨1, _⟩ => ⟨S4x128x1024, .f32⟩
  | .local _ .vmem, ⟨2, _⟩ => ⟨S128x1024, .f32⟩
  | .local _ .vmem, ⟨3, _⟩ => ⟨S128x1024, .f32⟩
  | .local _ .vmem, ⟨4, _⟩ => ⟨S4x128x1024, .f32⟩
  | .local _ .vmem, ⟨5, _⟩ => ⟨S4x128x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x2048x1024 : Shape := ⟨3, ![4, 2048, 1024]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x1024, .f32⟩
  | .hbm, ⟨22, _⟩ => ⟨S2048x1024, .i1⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S4x2048x1024, .f32⟩
  | .hbm, ⟨31, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]
-- ==== Proof.KernelValue.lean ====
/- What the pipelined kernel computes. Each of its 16 grid points stages 128 rows of every batch entry of `x` together
   with the same 128 rows of the table `pe`, and writes `x + pe · (1/32)` back to those rows of the result. The blocks
   tile the result, so after the run the result array is one function of the two whole arrays. -/
module

public import proofs.«01_k».proof.Proof.Gen.KernelIdeal.Value
public import Idealize.ShloMosaic.Lib.Pipeline.ValueKit

@[expose] public section

set_option maxRecDepth 16384

noncomputable section

namespace Cert.KernelIdeal.Posed

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The row and column of the table that element `i = (b, s, d)` of the result reads: `(s, d)`, whatever the batch. -/
abbrev tableIdx (i : S4x2048x1024.Idx) : S2048x1024.Idx := ix2 (i 1) (i 2)

/-- The result as one function of the two arrays: at `(b, s, d)` it is `x[b, s, d] + pe[s, d] · 2⁻⁵`, the factor given
    by its float word. -/
def posed (x : FVec F S4x2048x1024 .f32) (pe : FVec F S2048x1024 .f32) : FVec F S4x2048x1024 .f32 := fun i =>
  FloatOps.addf (x i) (FloatOps.mulf (pe (tableIdx i)) (Scalar.ofBits .f32 0x3D000000#32))

/-- Where the three windows stand at grid point `t`: all of them on sequence block `t`, and on block 0 of every other axis. -/
theorem windows_at (t : Fin cfg0.N) : win0_0.index t = ![0, t.val, 0] ∧ win0_1.index t = ![t.val, 0] ∧ win0_2.index t = ![0, t.val, 0] :=
  (by decide +kernel : ∀ t : Fin grid0.N, win0_0.index t = ![0, t.val, 0] ∧ win0_1.index t = ![t.val, 0] ∧ win0_2.index t = ![0, t.val, 0]) t

/-- One block: element `y` of what a grid point computes from its block of `x` and its block of the table. -/
theorem block_apply (x : Vec F S4x128x1024 .f32) (pe : Vec F S128x1024 .f32) (y : S4x128x1024.Idx) :
    k0_pay1 x pe y = FloatOps.addf (x y) (FloatOps.mulf (pe (ix2 (y 1) (y 2))) (Scalar.ofBits .f32 0x3D000000#32)) := by
  unfold k0_pay1
  show FloatOps.addf (x y) _ = _
  refine congrArg (FloatOps.addf (x y)) ?_
  rw [broadcastTo_apply _ _ y (ix3 0 (y 1) (y 2) : S1x128x1024.Idx) (fun a => by
        match a with
        | ⟨0, _⟩ => rfl
        | ⟨1, _⟩ => rfl
        | ⟨2, _⟩ => rfl),
    shapeCast_apply _ _ _ (ix2 (y 1) (y 2) : S128x1024.Idx) (by
      rw [Shape.rowMajor_val_two, Shape.rowMajor_val_three]
      show (y 1).val * 1024 + (y 2).val = (0 * 128 + (y 1).val) * 1024 + (y 2).val
      omega)]
  rfl

/-- After the run the result array is `posed x pe`: the blocks that the points write tile it, and each is the
    block of `posed x pe` at its place. -/
theorem result_eq (c : Dev nD) :
    (dats m 0 c).arrAt 2 cfg0.N = posed (m ((c : Thread nD τ).loc main_arg0)) (m ((c : Thread nD τ).loc main_arg1)) := by
  refine (dats m 0 c).arrAt_eq_of_covers 2 _ (by decide +kernel) fun t hf y => ?_
  obtain ⟨e0, e1, e2⟩ := windows_at t
  blk_simp
  rw [after0_2]
  frame_out
  rw [block_apply]
  unfold posed
  have hx : iblk m c 0 t y = m ((c : Thread nD τ).loc main_arg0) (((cfg0.win 2).blk t).view.emb y) := by
    blk_ext [iblk, V, e0, e2]
  have hpe : iblk m c 1 t (ix2 (y 1) (y 2)) = m ((c : Thread nD τ).loc main_arg1)
      (ix2 (n0 := 2048) (n1 := 1024) (((cfg0.win 2).blk t).view.emb y 1) (((cfg0.win 2).blk t).view.emb y 2)) := by
    blk_ext [iblk, V, e1, e2]
  exact congrArg₂ FloatOps.addf hx (congrArg (FloatOps.mulf · _) hpe)

/-- The kernel's run: it ends with the result array at `posed x pe` and both arguments as they were. -/
theorem run : θ_run defs (onTc (τ := τ) (main (F := F))) ⟨m, fun _ => 0, ρ⟩ fun r => ∀ c : Dev nD,
      r.2.mem ((c : Thread nD τ).loc main_v0) = posed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (Value.run_blocks m ρ)

end Cert.KernelIdeal.Posed

end
-- ==== Proof.ReferenceValue.lean ====
/- What the reference computes. It looks up row `positions[s] = s` of the table for every position `s`: a negative index
   would be wrapped, an index out of range would give NaN, and neither happens, so the lookup returns the table itself. The rest is a
   division by 32 and a sum over the batch, read element by element. -/
module

public import proofs.«01_k».proof.Proof.Gen.ReferenceIdeal.Run
public import Idealize.ShloMosaic.Lib.Pipeline.Value
public import Idealize.ShloMosaic.Lib.ValueIdx
public import Idealize.ShloMosaic.Lib.IdealHost
public import Idealize.ShloMosaic.Lib.Routing.Ops

@[expose] public section

set_option maxRecDepth 16384

noncomputable section

namespace Cert.ReferenceIdeal.Posed

open Cert.ReferenceIdeal Cert.ReferenceIdeal.Gen Idealize.ShloMosaic Idealize.ShloMosaic.TcCoe Idealize.SL.Sem
open Idealize.ShloMosaic.ValueIdx

variable {F : FTy → Type} [FloatOps F]

/-- The start indices of the lookup as the program computes them: the positions, 2048 added to those below zero, as a column. -/
abbrev starts : IVec S2048x1 32 :=
  broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0))

/-- The bit that says of each position whether its start index is in the table's range, as the program computes it. -/
abbrev inRange : IVec S2048 1 :=
  Host.reduce IntOp.andi (andi (cmpi .sge starts (broadcastInDim S2048x1 ![] bcast_S_S2048x1 (constantI S_ 32 0#32))) (cmpi .sle starts (broadcastInDim S2048x1 ![0, 1] bcast_S1x1_S2048x1_0_1 (broadcastInDim S1x1 ![1] bcast_S1_S1x1_1 (constantI S1 32 2047#32))))) (constantI S_ 1 1#1) reducesTo_S2048x1_S2048_d1 h_S_

/-- The lookup as the program computes it: the gathered rows where the index is in range, NaN elsewhere. -/
abbrev taken (pe : FVec F S2048x1024 .f32) : FVec F S2048x1024 .f32 :=
  select (broadcastInDim S2048x1024 ![0] bcast_S2048_S2048x1024_0 inRange) (Host.gather gather_S2048x1024_S2048x1_S2048x1024_1_0_n_n_0_1_11024 pe starts) (broadcastInDim S2048x1024 ![] bcast_S_S2048x1024 (constant S_ .f32 0x7FC00000#32))

/-- A position is not negative as a signed word, and lies in the range 0 to 2047. -/
theorem word_facts : ∀ n < 2048, IntOp.cmpi .slt (BitVec.ofNat 32 n) 0#32 = 0#1 ∧ IntOp.cmpi .sge (BitVec.ofNat 32 n) 0#32 = 1#1
    ∧ IntOp.cmpi .sle (BitVec.ofNat 32 n) 2047#32 = 1#1 := by decide +kernel

/-- The start index of row `s` is `s`. -/
theorem starts_apply (j : S2048x1.Idx) : starts j = BitVec.ofNat 32 (j 0).val := by
  unfold starts
  rw [broadcastInDim_apply _ _ _ j (ix1 (n := 2048) (j 0)) (fun a => by
    match a with
    | ⟨0, _⟩ => rfl)]
  show Scalar.select (IntOp.cmpi .slt (BitVec.ofNat 32 (j 0).val) 0#32) _ (BitVec.ofNat 32 (j 0).val) = _
  rw [(word_facts _ (j 0).isLt).1]
  rfl

/-- The conjunction of bits that are all set is set. -/
theorem foldl_andi {α : Type} (l : List α) : l.foldl (fun (r : BitVec 1) _ => IntOp.andi r 1#1) 1#1 = 1#1 := by
  induction l with
  | nil => rfl
  | cons a l ih => exact ih

/-- Every position is in range. -/
theorem inRange_apply (j : S2048.Idx) : inRange j = 1#1 := by
  have h : (andi (cmpi .sge starts (broadcastInDim S2048x1 ![] bcast_S_S2048x1 (constantI S_ 32 0#32))) (cmpi .sle starts (broadcastInDim S2048x1 ![0, 1] bcast_S1x1_S2048x1_0_1 (broadcastInDim S1x1 ![1] bcast_S1_S1x1_1 (constantI S1 32 2047#32)))))
      = fun _ => 1#1 := by
    funext k
    show IntOp.andi (IntOp.cmpi .sge (starts k) 0#32) (IntOp.cmpi .sle (starts k) 2047#32) = 1#1
    rw [starts_apply, (word_facts _ (k 0).isLt).2.1, (word_facts _ (k 0).isLt).2.2]
    rfl
  unfold inRange
  rw [h]
  exact foldl_andi _

/-- So the lookup of the rows 0 to 2047 returns the table. -/
theorem taken_eq (pe : FVec F S2048x1024 .f32) : taken pe = pe := by
  funext j
  have hb : broadcastInDim S2048x1024 ![0] bcast_S2048_S2048x1024_0 inRange j = 1#1 := by
    unfold broadcastInDim
    exact inRange_apply _
  have hg : Host.gather gather_S2048x1024_S2048x1_S2048x1024_1_0_n_n_0_1_11024 pe starts j = pe j := by
    obtain ⟨s, d, rfl⟩ : ∃ s d, j = ix2 s d := ⟨_, _, eq_ix2 j⟩
    exact Routing.gather_row _ rfl rfl rfl rfl rfl pe starts s d s (starts_apply _) (by norm_num)
  show Scalar.select (broadcastInDim S2048x1024 ![0] bcast_S2048_S2048x1024_0 inRange j) (Host.gather gather_S2048x1024_S2048x1_S2048x1024_1_0_n_n_0_1_11024 pe starts j) _ = pe j
  rw [hb, hg]
  rfl

/-- The reference's result: at `(b, s, d)` it is `x[b, s, d] + pe[s, d] / 32`, the divisor given by its float word. -/
def sum (x : FVec F S4x2048x1024 .f32) (pe : FVec F S2048x1024 .f32) : FVec F S4x2048x1024 .f32 := fun i =>
  FloatOps.addf (x i) (FloatOps.hostDivf (pe (ix2 (i 1) (i 2))) (Scalar.ofBits .f32 0x42000000#32))

/-- The table divided by 32 and repeated for every batch entry, added to `x`, is `sum x pe` element by element. -/
theorem sum_eq (x : FVec F S4x2048x1024 .f32) (pe : FVec F S2048x1024 .f32) :
    addf x (broadcastInDim S4x2048x1024 ![0, 1, 2] bcast_S1x2048x1024_S4x2048x1024_0_1_2 (Host.divf (broadcastInDim S1x2048x1024 ![1, 2] bcast_S2048x1024_S1x2048x1024_1_2 pe) (broadcastInDim S1x2048x1024 ![] bcast_S_S1x2048x1024 (constant S_ .f32 0x42000000#32))))
      = sum x pe := by
  funext i
  show FloatOps.addf (x i) _ = _
  refine congrArg (FloatOps.addf (x i)) ?_
  rw [broadcastInDim_apply _ _ _ i (ix3 0 (i 1) (i 2) : S1x2048x1024.Idx) (fun a => by
    match a with
    | ⟨0, _⟩ => rfl
    | ⟨1, _⟩ => rfl
    | ⟨2, _⟩ => rfl)]
  refine congrArg (FloatOps.hostDivf · _) ?_
  exact broadcastInDim_apply _ _ pe _ (ix2 (i 1) (i 2) : S2048x1024.Idx) (fun a => by
    match a with
    | ⟨0, _⟩ => rfl
    | ⟨1, _⟩ => rfl)

/-- The whole composed term of the program, the lookup in it, is `sum x pe`. -/
theorem term_eq (x : FVec F S4x2048x1024 .f32) (pe : FVec F S2048x1024 .f32) :
    addf x (broadcastInDim S4x2048x1024 ![0, 1, 2] bcast_S1x2048x1024_S4x2048x1024_0_1_2 (Host.divf (broadcastInDim S1x2048x1024 ![1, 2] bcast_S2048x1024_S1x2048x1024_1_2 (taken pe)) (broadcastInDim S1x2048x1024 ![] bcast_S_S1x2048x1024 (constant S_ .f32 0x42000000#32))))
      = sum x pe := by
  rw [taken_eq]
  exact sum_eq x pe

variable (m : (ℓ : Loc nD τ sig) → Buf (Elt F) ℓ) (ρ : Dev nD → PrngReg)

/-- The reference's run: it ends with its result at `sum x pe` and both arguments as they were. -/
theorem run : θ_run defs (onTc (τ := τ) (main (F := F))) ⟨m, fun _ => 0, ρ⟩ fun r => ∀ c : Dev nD,
      r.2.mem ((c : Thread nD τ).loc main_v6) = sum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (term_eq (F := F) (m ((c : Thread nD τ).loc main_arg0)) (m ((c : Thread nD τ).loc main_arg1))), (h c).2⟩)
    (Value.run m ρ)

end Cert.ReferenceIdeal.Posed

end
-- ==== Proof.Equation.lean ====
/- The equation between the two: over the extended reals, dividing by 32 is multiplying by 1/32, for every extended real. -/
module

public import proofs.«01_k».proof.Proof.KernelValue
public import proofs.«01_k».proof.Proof.ReferenceValue

@[expose] public section

noncomputable section

namespace Cert.Posed

open Idealize.ShloMosaic

/-- The reference's divisor, √1024, is the real number 32. -/
theorem divisor_eq : Ideal.ofBits .f32 0x42000000#32 = ((32 : ℝ) : EReal) := by
  simp [Ideal.ofBits, Ideal.ieee, -EReal.coe_mul]; norm_num

/-- The kernel's factor is the real number 1/32. -/
theorem factor_eq : Ideal.ofBits .f32 0x3D000000#32 = ((1 / 32 : ℝ) : EReal) := by
  simp [Ideal.ofBits, Ideal.ieee, -EReal.coe_mul]; norm_num

/-- The reference's quotient is the kernel's product, infinities included. -/
theorem quotient_eq (p : EReal) : Ideal.div p (Ideal.ofBits .f32 0x42000000#32) = p * Ideal.ofBits .f32 0x3D000000#32 := by
  rw [divisor_eq, factor_eq, Ideal.div_coe (by norm_num)]

/-- So both programs compute the same function of `x` and `pe`. -/
theorem sum_eq_posed (x : FVec Ideal Cert.KernelIdeal.S4x2048x1024 .f32) (pe : FVec Ideal Cert.KernelIdeal.S2048x1024 .f32) :
    Cert.ReferenceIdeal.Posed.sum x pe = Cert.KernelIdeal.Posed.posed x pe := by
  funext i
  exact congrArg (x i + ·) (quotient_eq _)

end Cert.Posed

end
-- ==== Proof.lean ====
/- The certificate's proof. The three frames are the generated runs; the ideal program is the kernel with nothing rewritten; and the
   kernel and the reference end with the same array, `x + pe / 32` (Proof/KernelValue.lean, Proof/ReferenceValue.lean,
   Proof/Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged, and has no semaphore that could be left raised. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Posed.run (F := Ideal) m ρ)

/-- From memories that agree on `x` and `pe`, the idealized kernel and the reference end with equal results. -/
theorem algebraic : Cert.algebraic_KernelIdeal_ReferenceIdeal := by
  intro m ρ m' ρ' _ hagree
  refine ⟨_, Cert.KernelIdeal.Posed.run (F := Ideal) m ρ, ?_⟩
  refine (θ_run Cert.ReferenceIdeal.defs _ _).mono (fun _ h c => ⟨(h c).1.trans ?_, (h c).2⟩)
    (Cert.ReferenceIdeal.Posed.run (F := Ideal) m' ρ')
  rw [(hagree c).1, (hagree c).2]
  exact Cert.Posed.sum_eq_posed _ _

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
